-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def preserves_Reference_ReferenceIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S3x512x24x160 : Shape := ⟨4, ![3, 512, 24, 160]⟩
abbrev S3x4x24 : Shape := ⟨3, ![3, 4, 24]⟩
abbrev S3x512x8x160 : Shape := ⟨4, ![3, 512, 8, 160]⟩
abbrev S3x4x8 : Shape := ⟨3, ![3, 4, 8]⟩
abbrev S8x160 : Shape := ⟨2, ![8, 160]⟩
abbrev S_ : Shape := ⟨0, ![]⟩
abbrev S3x24x160x512 : Shape := ⟨4, ![3, 24, 160, 512]⟩
abbrev S3x8x160x512 : Shape := ⟨4, ![3, 8, 160, 512]⟩
abbrev S2x4x160x1 : Shape := ⟨4, ![2, 4, 160, 1]⟩
abbrev S2x4x160x128 : Shape := ⟨4, ![2, 4, 160, 128]⟩
abbrev S2x4x160x256 : Shape := ⟨4, ![2, 4, 160, 256]⟩
abbrev S1 : Shape := ⟨1, ![1]⟩
abbrev S3x512x3840 : Shape := ⟨3, ![3, 512, 3840]⟩
abbrev S1x12x160x512 : Shape := ⟨4, ![1, 12, 160, 512]⟩
abbrev S1x4x160x512 : Shape := ⟨4, ![1, 4, 160, 512]⟩
abbrev S1x4x160x256 : Shape := ⟨4, ![1, 4, 160, 256]⟩
abbrev S1x512x1920 : Shape := ⟨3, ![1, 512, 1920]⟩
abbrev S1920x512 : Shape := ⟨2, ![1920, 512]⟩
abbrev S128x128 : Shape := ⟨2, ![128, 128]⟩
abbrev S1x1x160x512 : Shape := ⟨4, ![1, 1, 160, 512]⟩
abbrev S160x512 : Shape := ⟨2, ![160, 512]⟩
abbrev S512x160 : Shape := ⟨2, ![512, 160]⟩
abbrev S1x1x160x256 : Shape := ⟨4, ![1, 1, 160, 256]⟩
abbrev S160x256 : Shape := ⟨2, ![160, 256]⟩
abbrev S256x160 : Shape := ⟨2, ![256, 160]⟩
abbrev S256x256 : Shape := ⟨2, ![256, 256]⟩
abbrev S1x1x1 : Shape := ⟨3, ![1, 1, 1]⟩
abbrev S128x256 : Shape := ⟨2, ![128, 256]⟩
abbrev S512x256 : Shape := ⟨2, ![512, 256]⟩
abbrev S1x128x128 : Shape := ⟨3, ![1, 128, 128]⟩

abbrev nBuf : Space → Nat
  | .hbm => 15
  | .vmem => 11
  | .smem => 3
  | _ => 0

abbrev bufTy : (tb : Table) → Fin (tcTables nBuf tb) → BufTy
  | .hbm, ⟨0, _⟩ => ⟨S3x512x24x160, .fp8e4m3⟩
  | .hbm, ⟨1, _⟩ => ⟨S3x4x24, .f32⟩
  | .hbm, ⟨2, _⟩ => ⟨S3x512x8x160, .fp8e4m3⟩
  | .hbm, ⟨3, _⟩ => ⟨S3x4x8, .f32⟩
  | .hbm, ⟨4, _⟩ => ⟨S3x512x8x160, .fp8e4m3⟩
  | .hbm, ⟨5, _⟩ => ⟨S8x160, .f32⟩
  | .hbm, ⟨6, _⟩ => ⟨S_, .f32⟩
  | .hbm, ⟨7, _⟩ => ⟨S3x24x160x512, .fp8e4m3⟩
  | .hbm, ⟨8, _⟩ => ⟨S3x8x160x512, .fp8e4m3⟩
  | .hbm, ⟨9, _⟩ => ⟨S3x8x160x512, .fp8e4m3⟩
  | .hbm, ⟨10, _⟩ => ⟨S2x4x160x1, .f32⟩
  | .hbm, ⟨11, _⟩ => ⟨S2x4x160x128, .f32⟩
  | .hbm, ⟨12, _⟩ => ⟨S2x4x160x256, .f32⟩
  | .hbm, ⟨13, _⟩ => ⟨S1, .f32⟩
  | .hbm, ⟨14, _⟩ => ⟨S3x512x3840, .bf16⟩
  | .local _ .vmem, ⟨0, _⟩ => ⟨S1x12x160x512, .fp8e4m3⟩
  | .local _ .vmem, ⟨1, _⟩ => ⟨S1x12x160x512, .fp8e4m3⟩
  | .local _ .vmem, ⟨2, _⟩ => ⟨S1x4x160x512, .fp8e4m3⟩
  | .local _ .vmem, ⟨3, _⟩ => ⟨S1x4x160x512, .fp8e4m3⟩
  | .local _ .vmem, ⟨4, _⟩ => ⟨S1x4x160x512, .fp8e4m3⟩
  | .local _ .vmem, ⟨5, _⟩ => ⟨S1x4x160x512, .fp8e4m3⟩
  | .local _ .vmem, ⟨6, _⟩ => ⟨S1x4x160x256, .f32⟩
  | .local _ .vmem, ⟨7, _⟩ => ⟨S1x4x160x256, .f32⟩
  | .local _ .vmem, ⟨8, _⟩ => ⟨S1x512x1920, .bf16⟩
  | .local _ .vmem, ⟨9, _⟩ => ⟨S1x512x1920, .bf16⟩
  | .local _ .vmem, ⟨10, _⟩ => ⟨S1920x512, .bf16⟩
  | .local _ .smem, ⟨0, _⟩ => ⟨S3x4x24, .f32⟩
  | .local _ .smem, ⟨1, _⟩ => ⟨S3x4x8, .f32⟩
  | .local _ .smem, ⟨2, _⟩ => ⟨S1, .f32⟩
  | _, _ => ⟨S3x512x24x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![3, 2], ![false, false]⟩

def k0_off1 (i : grid0.Coords) (c0_i32 : BitVec 32) : Fin 3 → Nat :=
  let arg0 : BitVec 32 := BitVec.ofNat 32 (i 0).val
  let v17 : Index := Scalar.indexCast arg0
  let c0_14 : Index := 0#32
  let arg1 : BitVec 32 := BitVec.ofNat 32 (i 1).val
  let c12_i32 : BitVec 32 := 12#32
  let v15 : BitVec 32 := Scalar.muli arg1 c12_i32
  let v16 : BitVec 32 := Scalar.addi v15 c0_i32
  let v18 : Index := Scalar.indexCast v16
  ![v17.toNat, 0, v18.toNat]
def k0_off2 (i : grid0.Coords) (c0_i32_15 : BitVec 32) : Fin 3 → Nat :=
  let arg0 : BitVec 32 := BitVec.ofNat 32 (i 0).val
  let v22 : Index := Scalar.indexCast arg0
  let c0_16 : Index := 0#32
  let arg1 : BitVec 32 := BitVec.ofNat 32 (i 1).val
  let c4_i32 : BitVec 32 := 4#32
  let v20 : BitVec 32 := Scalar.muli arg1 c4_i32
  let v21 : BitVec 32 := Scalar.addi v20 c0_i32_15
  let v23 : Index := Scalar.indexCast v21
  ![v22.toNat, 0, v23.toNat]
def k0_off3 (i : grid0.Coords) (c0_i32_23 : BitVec 32) : Fin 3 → Nat :=
  let arg0 : BitVec 32 := BitVec.ofNat 32 (i 0).val
  let v46 : Index := Scalar.indexCast arg0
  let c1 : Index := 1#32
  let arg1 : BitVec 32 := BitVec.ofNat 32 (i 1).val
  let c12_i32_22 : BitVec 32 := 12#32
  let v44 : BitVec 32 := Scalar.muli arg1 c12_i32_22
  let v45 : BitVec 32 := Scalar.addi v44 c0_i32_23
  let v47 : Index := Scalar.indexCast v45
  ![v46.toNat, 1, v47.toNat]
def k0_off4 (i : grid0.Coords) (c0_i32_36 : BitVec 32) : Fin 3 → Nat :=
  let arg0 : BitVec 32 := BitVec.ofNat 32 (i 0).val
  let v80 : Index := Scalar.indexCast arg0
  let c1_37 : Index := 1#32
  let arg1 : BitVec 32 := BitVec.ofNat 32 (i 1).val
  let c4_i32_35 : BitVec 32 := 4#32
  let v78 : BitVec 32 := Scalar.muli arg1 c4_i32_35
  let v79 : BitVec 32 := Scalar.addi v78 c0_i32_36
  let v81 : Index := Scalar.indexCast v79
  ![v80.toNat, 1, v81.toNat]
def k0_off5 (i : grid0.Coords) (c0_i32_55 : BitVec 32) : Fin 3 → Nat :=
  let arg0 : BitVec 32 := BitVec.ofNat 32 (i 0).val
  let v120 : Index := Scalar.indexCast arg0
  let c2 : Index := 2#32
  let arg1 : BitVec 32 := BitVec.ofNat 32 (i 1).val
  let c12_i32_54 : BitVec 32 := 12#32
  let v118 : BitVec 32 := Scalar.muli arg1 c12_i32_54
  let v119 : BitVec 32 := Scalar.addi v118 c0_i32_55
  let v121 : Index := Scalar.indexCast v119
  ![v120.toNat, 2, v121.toNat]
def k0_off6 (i : grid0.Coords) (c0_i32_64 : BitVec 32) : Fin 3 → Nat :=
  let arg0 : BitVec 32 := BitVec.ofNat 32 (i 0).val
  let v147 : Index := Scalar.indexCast arg0
  let c3 : Index := 3#32
  let arg1 : BitVec 32 := BitVec.ofNat 32 (i 1).val
  let c12_i32_63 : BitVec 32 := 12#32
  let v145 : BitVec 32 := Scalar.muli arg1 c12_i32_63
  let v146 : BitVec 32 := Scalar.addi v145 c0_i32_64
  let v148 : Index := Scalar.indexCast v146
  ![v147.toNat, 3, v148.toNat]
def k0_off7 (i : grid0.Coords) (c0_i32_96 : BitVec 32) : Fin 3 → Nat :=
  let arg0 : BitVec 32 := BitVec.ofNat 32 (i 0).val
  let v235 : Index := Scalar.indexCast arg0
  let c2_97 : Index := 2#32
  let arg1 : BitVec 32 := BitVec.ofNat 32 (i 1).val
  let c4_i32_95 : BitVec 32 := 4#32
  let v233 : BitVec 32 := Scalar.muli arg1 c4_i32_95
  let v234 : BitVec 32 := Scalar.addi v233 c0_i32_96
  let v236 : Index := Scalar.indexCast v234
  ![v235.toNat, 2, v236.toNat]
def k0_off8 (i : grid0.Coords) (c0_i32_118 : BitVec 32) : Fin 3 → Nat :=
  let arg0 : BitVec 32 := BitVec.ofNat 32 (i 0).val
  let v293 : Index := Scalar.indexCast arg0
  let c3_119 : Index := 3#32
  let arg1 : BitVec 32 := BitVec.ofNat 32 (i 1).val
  let c4_i32_117 : BitVec 32 := 4#32
  let v291 : BitVec 32 := Scalar.muli arg1 c4_i32_117
  let v292 : BitVec 32 := Scalar.addi v291 c0_i32_118
  let v294 : Index := Scalar.indexCast v292
  ![v293.toNat, 3, v294.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S3x4x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S3x4x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x12x160x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x160x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x160x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x160x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x1920 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference.lean ====
abbrev S3x512x24x160 : Shape := ⟨4, ![3, 512, 24, 160]⟩
abbrev S3x4x24 : Shape := ⟨3, ![3, 4, 24]⟩
abbrev S3x512x8x160 : Shape := ⟨4, ![3, 512, 8, 160]⟩
abbrev S3x4x8 : Shape := ⟨3, ![3, 4, 8]⟩
abbrev S8x160 : Shape := ⟨2, ![8, 160]⟩
abbrev S_ : Shape := ⟨0, ![]⟩
abbrev S3x512x8x3x160 : Shape := ⟨5, ![3, 512, 8, 3, 160]⟩
abbrev S3x8x3x512x160 : Shape := ⟨5, ![3, 8, 3, 512, 160]⟩
abbrev S3x8x512x160 : Shape := ⟨4, ![3, 8, 512, 160]⟩
abbrev S3x4x8x3 : Shape := ⟨4, ![3, 4, 8, 3]⟩
abbrev S3x8x3x4 : Shape := ⟨4, ![3, 8, 3, 4]⟩
abbrev S3x8x3x4x1 : Shape := ⟨5, ![3, 8, 3, 4, 1]⟩
abbrev S3x8x3x4x128 : Shape := ⟨5, ![3, 8, 3, 4, 128]⟩
abbrev S3x8x3x512 : Shape := ⟨4, ![3, 8, 3, 512]⟩
abbrev S3x8x4 : Shape := ⟨3, ![3, 8, 4]⟩
abbrev S3x8x4x1 : Shape := ⟨4, ![3, 8, 4, 1]⟩
abbrev S3x8x4x128 : Shape := ⟨4, ![3, 8, 4, 128]⟩
abbrev S3x8x512 : Shape := ⟨3, ![3, 8, 512]⟩
abbrev S1x1 : Shape := ⟨2, ![1, 1]⟩
abbrev S3x512x3840 : Shape := ⟨3, ![3, 512, 3840]⟩
abbrev S3x8x3x512x512 : Shape := ⟨5, ![3, 8, 3, 512, 512]⟩
abbrev S3x8x3x512x1 : Shape := ⟨5, ![3, 8, 3, 512, 1]⟩
abbrev S3x8x1x1x512 : Shape := ⟨5, ![3, 8, 1, 1, 512]⟩
abbrev S512x512 : Shape := ⟨2, ![512, 512]⟩
abbrev S1x1x1x512x512 : Shape := ⟨5, ![1, 1, 1, 512, 512]⟩
abbrev S3x8x160x3x512 : Shape := ⟨5, ![3, 8, 160, 3, 512]⟩
abbrev S1x1x8x1x160 : Shape := ⟨5, ![1, 1, 8, 1, 160]⟩

abbrev nBuf : Space → Nat
  | .hbm => 22
  | .vmem => 8
  | .smem => 0
  | _ => 0

abbrev bufTy : (tb : Table) → Fin (tcTables nBuf tb) → BufTy
  | .hbm, ⟨0, _⟩ => ⟨S3x512x24x160, .fp8e4m3⟩
  | .hbm, ⟨1, _⟩ => ⟨S3x4x24, .f32⟩
  | .hbm, ⟨2, _⟩ => ⟨S3x512x8x160, .fp8e4m3⟩
  | .hbm, ⟨3, _⟩ => ⟨S3x4x8, .f32⟩
  | .hbm, ⟨4, _⟩ => ⟨S3x512x8x160, .fp8e4m3⟩
  | .hbm, ⟨5, _⟩ => ⟨S8x160, .f32⟩
  | .hbm, ⟨6, _⟩ => ⟨S_, .f32⟩
  | .hbm, ⟨7, _⟩ => ⟨S3x512x8x3x160, .fp8e4m3⟩
  | .hbm, ⟨8, _⟩ => ⟨S3x8x3x512x160, .fp8e4m3⟩
  | .hbm, ⟨9, _⟩ => ⟨S3x8x512x160, .fp8e4m3⟩
  | .hbm, ⟨10, _⟩ => ⟨S3x8x512x160, .fp8e4m3⟩
  | .hbm, ⟨11, _⟩ => ⟨S3x4x8x3, .f32⟩
  | .hbm, ⟨12, _⟩ => ⟨S3x8x3x4, .f32⟩
  | .hbm, ⟨13, _⟩ => ⟨S3x8x3x4x1, .f32⟩
  | .hbm, ⟨14, _⟩ => ⟨S3x8x3x4x128, .f32⟩
  | .hbm, ⟨15, _⟩ => ⟨S3x8x3x512, .f32⟩
  | .hbm, ⟨16, _⟩ => ⟨S3x8x4, .f32⟩
  | .hbm, ⟨17, _⟩ => ⟨S3x8x4x1, .f32⟩
  | .hbm, ⟨18, _⟩ => ⟨S3x8x4x128, .f32⟩
  | .hbm, ⟨19, _⟩ => ⟨S3x8x512, .f32⟩
  | .hbm, ⟨20, _⟩ => ⟨S1x1, .f32⟩
  | .hbm, ⟨21, _⟩ => ⟨S3x512x3840, .bf16⟩
  | .local _ .vmem, ⟨0, _⟩ => ⟨S3x8x3x512x160, .fp8e4m3⟩
  | .local _ .vmem, ⟨1, _⟩ => ⟨S3x8x3x512, .f32⟩
  | .local _ .vmem, ⟨2, _⟩ => ⟨S3x8x512x160, .fp8e4m3⟩
  | .local _ .vmem, ⟨3, _⟩ => ⟨S3x8x512, .f32⟩
  | .local _ .vmem, ⟨4, _⟩ => ⟨S3x8x512x160, .fp8e4m3⟩
  | .local _ .vmem, ⟨5, _⟩ => ⟨S8x160, .f32⟩
  | .local _ .vmem, ⟨6, _⟩ => ⟨S1x1, .f32⟩
  | .local _ .vmem, ⟨7, _⟩ => ⟨S3x512x3840, .bf16⟩
  | _, _ => ⟨S3x512x24x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S3x8x3x512x160 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x8x3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x8x512x160 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x8x512x160 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x512x3840 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Head.lean ====
/-
  The kernel's body, one head at a time.

  The body is written out twelve heads deep, each head with two query tiles of 256 queries. This module states
  ONE head and query tile as a function of what it loads (`firstHalf` for queries 0-255, `secondHalf` for queries
  256-511), and shows that the 24 stores into the scratch are these functions at the 24 pairs (head, tile), and that
  the 60 stores into the output block are transposed 128 x 128 squares of the scratch.
-/
module

public import proofs.«01_k».proof.Proof.Gen.KernelIdeal.Frame

@[expose] public section

set_option maxRecDepth 16384

noncomputable section

namespace Cert.KernelIdeal.Attn

open Cert.KernelIdeal Cert.KernelIdeal.Gen Idealize.ShloMosaic Idealize.ShloMosaic.TcCoe Idealize.SL.Sem

variable {F : FTy → Type} [FloatOps F]

/-! ## One head and query tile -/

/-- The factor of a 128 x 128 square of scores: query scale times key scale times half the softmax scale. -/
def coef (a b : F .f32) : F .f32 := Scalar.mulf (Scalar.mulf a b) (Scalar.ofBits .f32 0x3D21E89B#32)

/-- The unrounded codes of a square of scores `s` with factor `c`: the clipped `tanh (s * c + half bias) * h + h`. -/
def square (h c : F .f32) (s : FVec F S128x128 .f32) : FVec F S128x128 .f32 :=
  minimumf (broadcast S128x128 (Scalar.ofBits .f32 0x43E00000#32))
    (maximumf (broadcast S128x128 (Scalar.ofBits .f32 0x00000000#32))
      (addf (mulf (tanh (addf (mulf s (broadcast S128x128 c)) (broadcast S128x128 (Scalar.ofBits .f32 0xC047A05B#32))))
        (broadcast S128x128 h)) (broadcast S128x128 h)))

/-- The codes of a square below the diagonal: every key is visible. -/
def lower (h c : F .f32) (s : FVec F S128x128 .f32) : FVec F S128x128 .fp8e4m3 :=
  truncf .fp8e4m3 (square h c s) bitsLt_fp8e4m3_f32

/-- The codes of a square on the diagonal: zero where the key is later than the query. -/
def diagonal (h c : F .f32) (s : FVec F S128x128 .f32) : FVec F S128x128 .fp8e4m3 :=
  truncf .fp8e4m3 (select k0_pay4 (square h c s) (broadcast S128x128 (Scalar.ofBits .f32 0x00000000#32))) bitsLt_fp8e4m3_f32

/-- The codes of a square above the diagonal: zero. -/
def upper : FVec F S128x128 .fp8e4m3 := broadcast S128x128 (Scalar.ofBits .fp8e4m3 0x00#8)

/-- Two squares side by side. -/
def pair (a b : FVec F S128x128 .fp8e4m3) : FVec F S128x256 .fp8e4m3 :=
  concatenate S128x256 1 [⟨S128x128, a⟩, ⟨S128x128, b⟩] concatenates_S128x128_S128x128_S128x256_d1

/-- The key codes, keys first. -/
def keysT (k : Vec F S1x1x160x512 .fp8e4m3) : FVec F S512x160 .fp8e4m3 :=
  transpose S512x160 [1, 0] (shapeCast S160x512 k shapeCasts_S1x1x160x512_S160x512) transposes_S160x512_p1_0_S512x160

/-- The scores of keys 0-255 against a tile of 256 queries. -/
def scores256 (k : Vec F S1x1x160x512 .fp8e4m3) (q : Vec F S1x1x160x256 .fp8e4m3) : FVec F S256x256 .f32 :=
  matmul dot_S256x160_S160x256_S256x256_1_0_0_1_n_n none
    (extractStridedSlice S256x160 ![0, 0] (keysT k) slices_S512x160_o0_0_S256x160)
    (shapeCast S160x256 q shapeCasts_S1x1x160x256_S160x256) (constant S256x256 .f32 0x00000000#32)

/-- The scores of all 512 keys against a tile of 256 queries. -/
def scores512 (k : Vec F S1x1x160x512 .fp8e4m3) (q : Vec F S1x1x160x256 .fp8e4m3) : FVec F S512x256 .f32 :=
  matmul dot_S512x160_S160x256_S512x256_1_0_0_1_n_n none (keysT k)
    (shapeCast S160x256 q shapeCasts_S1x1x160x256_S160x256) (constant S512x256 .f32 0x00000000#32)

/-- The codes of queries 0-255 against keys 0-255, from their scores: `qs r` and `ks r` are the scales of run `r` of 128
    queries or keys. -/
def codes256 (h : F .f32) (qs ks : Fin 4 → F .f32) (s : FVec F S256x256 .f32) : FVec F S256x256 .fp8e4m3 :=
  concatenate S256x256 0
    [⟨S128x256, pair (diagonal h (coef (qs 0) (ks 0)) (extractStridedSlice S128x128 ![0, 0] s slices_S256x256_o0_0_S128x128))
        (lower h (coef (qs 1) (ks 0)) (extractStridedSlice S128x128 ![0, 128] s slices_S256x256_o0_128_S128x128))⟩,
     ⟨S128x256, pair upper
        (diagonal h (coef (qs 1) (ks 1)) (extractStridedSlice S128x128 ![128, 128] s slices_S256x256_o128_128_S128x128))⟩]
    concatenates_S128x256_S128x256_S256x256_d0

/-- The codes of queries 256-511 against all 512 keys, from their scores. -/
def codes512 (h : F .f32) (qs ks : Fin 4 → F .f32) (s : FVec F S512x256 .f32) : FVec F S512x256 .fp8e4m3 :=
  concatenate S512x256 0
    [⟨S128x256, pair (lower h (coef (qs 2) (ks 0)) (extractStridedSlice S128x128 ![0, 0] s slices_S512x256_o0_0_S128x128))
        (lower h (coef (qs 3) (ks 0)) (extractStridedSlice S128x128 ![0, 128] s slices_S512x256_o0_128_S128x128))⟩,
     ⟨S128x256, pair (lower h (coef (qs 2) (ks 1)) (extractStridedSlice S128x128 ![128, 0] s slices_S512x256_o128_0_S128x128))
        (lower h (coef (qs 3) (ks 1)) (extractStridedSlice S128x128 ![128, 128] s slices_S512x256_o128_128_S128x128))⟩,
     ⟨S128x256, pair (diagonal h (coef (qs 2) (ks 2)) (extractStridedSlice S128x128 ![256, 0] s slices_S512x256_o256_0_S128x128))
        (lower h (coef (qs 3) (ks 2)) (extractStridedSlice S128x128 ![256, 128] s slices_S512x256_o256_128_S128x128))⟩,
     ⟨S128x256, pair upper
        (diagonal h (coef (qs 3) (ks 3)) (extractStridedSlice S128x128 ![384, 128] s slices_S512x256_o384_128_S128x128))⟩]
    concatenates_S128x256_S128x256_S128x256_S128x256_S512x256_d0

/-- The weighted value sum `ot` scaled by the code scale times the value scale, rounded. -/
def scaled (ps : F .f32) (vs : Vec F S1x1x160x256 .f32) (ot : FVec F S160x256 .f32) : FVec F S160x256 .bf16 :=
  shapeCast S160x256 (truncf .bf16 (mulf ot (mulf (broadcast S160x256 ps) (shapeCast S160x256 vs shapeCasts_S1x1x160x256_S160x256)))
    bitsLt_bf16_f32) shapeCasts_S160x256_S160x256

/-- What one head leaves for queries 0-255, from the blocks it loads. -/
def firstHalf (ps : F .f32) (qs ks : Fin 4 → F .f32) (k v : Vec F S1x1x160x512 .fp8e4m3) (q : Vec F S1x1x160x256 .fp8e4m3)
    (vs : Vec F S1x1x160x256 .f32) : FVec F S160x256 .bf16 :=
  scaled ps vs (matmul dot_S160x256_S256x256_S160x256_1_0_0_1_n_n none
    (extractStridedSlice S160x256 ![0, 0] (shapeCast S160x512 v shapeCasts_S1x1x160x512_S160x512) slices_S160x512_o0_0_S160x256)
    (codes256 (k0_pay3 ps) qs ks (scores256 k q)) (constant S160x256 .f32 0x00000000#32))

/-- What one head leaves for queries 256-511, from the blocks it loads. -/
def secondHalf (ps : F .f32) (qs ks : Fin 4 → F .f32) (k v : Vec F S1x1x160x512 .fp8e4m3) (q : Vec F S1x1x160x256 .fp8e4m3)
    (vs : Vec F S1x1x160x256 .f32) : FVec F S160x256 .bf16 :=
  scaled ps vs (matmul dot_S160x512_S512x256_S160x256_1_0_0_1_n_n none
    (shapeCast S160x512 v shapeCasts_S1x1x160x512_S160x512)
    (codes512 (k0_pay3 ps) qs ks (scores512 k q)) (constant S160x256 .f32 0x00000000#32))

/-! ## What head `hd` loads -/

variable (c : Dev nD) (i : grid0.Coords) (arg2 : Memref sig .tc .smem S3x4x24 .f32) (harg2 : arg2.IsWhole)
  (arg3 : Memref sig .tc .smem S3x4x8 .f32) (harg3 : arg3.IsWhole) (arg4 : Memref sig .tc .smem S1 .f32) (harg4 : arg4.IsWhole)
  (arg5 : Memref sig .tc .vmem S1x12x160x512 .fp8e4m3) (harg5 : arg5.IsWhole)
  (arg6 : Memref sig .tc .vmem S1x4x160x512 .fp8e4m3) (harg6 : arg6.IsWhole)
  (arg7 : Memref sig .tc .vmem S1x4x160x512 .fp8e4m3) (harg7 : arg7.IsWhole)
  (arg8 : Memref sig .tc .vmem S1x4x160x256 .f32) (harg8 : arg8.IsWhole)
  (arg9 : Memref sig .tc .vmem S1x512x1920 .bf16) (harg9 : arg9.IsWhole)
  (arg10 : Memref sig .tc .vmem S1920x512 .bf16) (harg10 : arg10.IsWhole)
  (x0 : Vec F S3x4x24 .f32) (x1 : Vec F S3x4x8 .f32) (x2 : Vec F S1 .f32) (x3 : Vec F S1x12x160x512 .fp8e4m3)
  (x4 : Vec F S1x4x160x512 .fp8e4m3) (x5 : Vec F S1x4x160x512 .fp8e4m3) (x6 : Vec F S1x4x160x256 .f32)

/-- The first index of a one-element block. -/
def one3 : S1x1x1.Idx := Shape.Idx.first (numel1_S1x1x1 ▸ Nat.one_pos)

/-- The scales of head `hd`'s four runs of queries. -/
def ldQs (hd : Fin 12) : Fin 4 → F .f32 :=
  ![View.readAt (Elt F) arg2.view (Rect.unit (s := S3x4x24) (k0_off1 i (BitVec.ofNat 32 hd.val)) S1x1x1.size (k0_off1_inb i hd)).toLoadRect (harg2.unread x0) one3,
    View.readAt (Elt F) arg2.view (Rect.unit (s := S3x4x24) (k0_off3 i (BitVec.ofNat 32 hd.val)) S1x1x1.size (k0_off3_inb i hd)).toLoadRect (harg2.unread x0) one3,
    View.readAt (Elt F) arg2.view (Rect.unit (s := S3x4x24) (k0_off5 i (BitVec.ofNat 32 hd.val)) S1x1x1.size (k0_off5_inb i hd)).toLoadRect (harg2.unread x0) one3,
    View.readAt (Elt F) arg2.view (Rect.unit (s := S3x4x24) (k0_off6 i (BitVec.ofNat 32 hd.val)) S1x1x1.size (k0_off6_inb i hd)).toLoadRect (harg2.unread x0) one3]

/-- The scales of key head `g`'s four runs of keys. -/
def ldKs (g : Fin 4) : Fin 4 → F .f32 :=
  ![View.readAt (Elt F) arg3.view (Rect.unit (s := S3x4x8) (k0_off2 i (BitVec.ofNat 32 g.val)) S1x1x1.size (k0_off2_inb i g)).toLoadRect (harg3.unread x1) one3,
    View.readAt (Elt F) arg3.view (Rect.unit (s := S3x4x8) (k0_off4 i (BitVec.ofNat 32 g.val)) S1x1x1.size (k0_off4_inb i g)).toLoadRect (harg3.unread x1) one3,
    View.readAt (Elt F) arg3.view (Rect.unit (s := S3x4x8) (k0_off7 i (BitVec.ofNat 32 g.val)) S1x1x1.size (k0_off7_inb i g)).toLoadRect (harg3.unread x1) one3,
    View.readAt (Elt F) arg3.view (Rect.unit (s := S3x4x8) (k0_off8 i (BitVec.ofNat 32 g.val)) S1x1x1.size (k0_off8_inb i g)).toLoadRect (harg3.unread x1) one3]

/-- The code scale. -/
def ldPs : F .f32 :=
  View.readAt (Elt F) arg4.view (Rect.unit (s := S1) ![0] S1.size inb_S1_S1_0).toLoadRect (harg4.unread x2)
    (Shape.Idx.first (numel1_S1 ▸ Nat.one_pos))

theorem inb_head (g : Fin 12) (o : ℕ) (ho : o + 256 ≤ 512) :
    ∀ a, (![0, g.val, 0, o] : Fin 4 → ℕ) a + S1x1x160x256.size a ≤ S1x12x160x512.size a := by
  have := g.isLt
  intro a
  match a with
  | ⟨0, _⟩ => show 0 + 1 ≤ 1; omega
  | ⟨1, _⟩ => show g.val + 1 ≤ 12; omega
  | ⟨2, _⟩ => show 0 + 160 ≤ 160; omega
  | ⟨3, _⟩ => show o + 256 ≤ 512; omega

theorem inb_kv (g : Fin 4) : ∀ a, (![0, g.val, 0, 0] : Fin 4 → ℕ) a + S1x1x160x512.size a ≤ S1x4x160x512.size a := by
  have := g.isLt
  intro a
  match a with
  | ⟨0, _⟩ => show 0 + 1 ≤ 1; omega
  | ⟨1, _⟩ => show g.val + 1 ≤ 4; omega
  | ⟨2, _⟩ => show 0 + 160 ≤ 160; omega
  | ⟨3, _⟩ => show 0 + 512 ≤ 512; omega

theorem inb_vs (g : Fin 4) : ∀ a, (![0, g.val, 0, 0] : Fin 4 → ℕ) a + S1x1x160x256.size a ≤ S1x4x160x256.size a := by
  have := g.isLt
  intro a
  match a with
  | ⟨0, _⟩ => show 0 + 1 ≤ 1; omega
  | ⟨1, _⟩ => show g.val + 1 ≤ 4; omega
  | ⟨2, _⟩ => show 0 + 160 ≤ 160; omega
  | ⟨3, _⟩ => show 0 + 256 ≤ 256; omega

/-- Head `hd`'s queries, 256 of them from `o`. -/
def ldQ (hd : Fin 12) (o : ℕ) (ho : o + 256 ≤ 512) : Vec F S1x1x160x256 .fp8e4m3 :=
  View.readAt (Elt F) arg5.view (Rect.unit (s := S1x12x160x512) ![0, hd.val, 0, o] S1x1x160x256.size (inb_head hd o ho)).toLoadRect (harg5.unread x3)

/-- Key head `g`'s keys. -/
def ldK (g : Fin 4) : Vec F S1x1x160x512 .fp8e4m3 :=
  View.readAt (Elt F) arg6.view (Rect.unit (s := S1x4x160x512) ![0, g.val, 0, 0] S1x1x160x512.size (inb_kv g)).toLoadRect (harg6.unread x4)

/-- Key head `g`'s values. -/
def ldV (g : Fin 4) : Vec F S1x1x160x512 .fp8e4m3 :=
  View.readAt (Elt F) arg7.view (Rect.unit (s := S1x4x160x512) ![0, g.val, 0, 0] S1x1x160x512.size (inb_kv g)).toLoadRect (harg7.unread x5)

/-- Key head `g`'s value scales, each repeated along 256 lanes. -/
def ldVs (g : Fin 4) : Vec F S1x1x160x256 .f32 :=
  View.readAt (Elt F) arg8.view (Rect.unit (s := S1x4x160x256) ![0, g.val, 0, 0] S1x1x160x256.size (inb_vs g)).toLoadRect (harg8.unread x6)

/-- The key head that query head `hd` attends to: three query heads share one. -/
def kvOf (hd : Fin 12) : Fin 4 := ⟨hd.val / 3, by have := hd.isLt; omega⟩

theorem inb_scr (hd : Fin 12) (o : ℕ) (ho : o + 256 ≤ 512) :
    ∀ a, (![160 * hd.val, o] : Fin 2 → ℕ) a + S160x256.size a ≤ S1920x512.size a := by
  have := hd.isLt
  intro a
  match a with
  | ⟨0, _⟩ => show 160 * hd.val + 160 ≤ 1920; omega
  | ⟨1, _⟩ => show o + 256 ≤ 512; omega

/-- Head `hd`'s store of queries 0-255. -/
def piece0 (hd : Fin 12) : View.Piece (Elt F) S1920x512 .bf16 :=
  ⟨Rect.unit (s := S1920x512) ![160 * hd.val, 0] S160x256.size (inb_scr hd 0 (by omega)),
    firstHalf (ldPs arg4 harg4 x2) (ldQs i arg2 harg2 x0 hd) (ldKs i arg3 harg3 x1 (kvOf hd)) (ldK arg6 harg6 x4 (kvOf hd))
      (ldV arg7 harg7 x5 (kvOf hd)) (ldQ arg5 harg5 x3 hd 0 (by omega)) (ldVs arg8 harg8 x6 (kvOf hd))⟩

/-- Head `hd`'s store of queries 256-511. -/
def piece1 (hd : Fin 12) : View.Piece (Elt F) S1920x512 .bf16 :=
  ⟨Rect.unit (s := S1920x512) ![160 * hd.val, 256] S160x256.size (inb_scr hd 256 (by omega)),
    secondHalf (ldPs arg4 harg4 x2) (ldQs i arg2 harg2 x0 hd) (ldKs i arg3 harg3 x1 (kvOf hd)) (ldK arg6 harg6 x4 (kvOf hd))
      (ldV arg7 harg7 x5 (kvOf hd)) (ldQ arg5 harg5 x3 hd 256 (by omega)) (ldVs arg8 harg8 x6 (kvOf hd))⟩

/-- The two stores of head `hd`, the later first. -/
def pieces (hd : Fin 12) : List (View.Piece (Elt F) S1920x512 .bf16) :=
  [piece1 i arg2 harg2 arg3 harg3 arg4 harg4 arg5 harg5 arg6 harg6 arg7 harg7 arg8 harg8 x0 x1 x2 x3 x4 x5 x6 hd,
   piece0 i arg2 harg2 arg3 harg3 arg4 harg4 arg5 harg5 arg6 harg6 arg7 harg7 arg8 harg8 x0 x1 x2 x3 x4 x5 x6 hd]

/-- Every store into the scratch is `piece0` or `piece1` of some head: the run's list is the twelve heads' stores, the last first. -/
theorem scratch_pieces :
    kernelRun0_A.sl.HS0_24 c i arg2 harg2 arg3 harg3 arg4 harg4 arg5 harg5 arg6 harg6 arg7 harg7 arg8 harg8 x0 x1 x2 x3 x4 x5 x6
      = ([11, 10, 9, 8, 7, 6, 5, 4, 3, 2, 1, 0] : List (Fin 12)).flatMap
        (pieces i arg2 harg2 arg3 harg3 arg4 harg4 arg5 harg5 arg6 harg6 arg7 harg7 arg8 harg8 x0 x1 x2 x3 x4 x5 x6) := by
  sl_kernel_rfl

/-! ## The stores into the output block -/

theorem inb_sq (r : Fin 15) (q : Fin 4) : ∀ a, (![128 * r.val, 128 * q.val] : Fin 2 → ℕ) a + S128x128.size a ≤ S1920x512.size a := by
  have := r.isLt
  have := q.isLt
  intro a
  match a with
  | ⟨0, _⟩ => show 128 * r.val + 128 ≤ 1920; omega
  | ⟨1, _⟩ => show 128 * q.val + 128 ≤ 512; omega

theorem inb_out (r : Fin 15) (q : Fin 4) : ∀ a, (![0, 128 * q.val, 128 * r.val] : Fin 3 → ℕ) a + S1x128x128.size a ≤ S1x512x1920.size a := by
  have := r.isLt
  have := q.isLt
  intro a
  match a with
  | ⟨0, _⟩ => show 0 + 1 ≤ 1; omega
  | ⟨1, _⟩ => show 128 * q.val + 128 ≤ 512; omega
  | ⟨2, _⟩ => show 128 * r.val + 128 ≤ 1920; omega

/-- The store of square (`q`, `r`) of the output block: square (`r`, `q`) of the scratch, transposed. `L` is the list of the stores into
    the scratch. -/
def outPiece (L : List (View.Piece (Elt F) S1920x512 .bf16)) (r : Fin 15) (q : Fin 4) : View.Piece (Elt F) S1x512x1920 .bf16 :=
  ⟨Rect.unit (s := S1x512x1920) ![0, 128 * q.val, 128 * r.val] S1x128x128.size (inb_out r q),
    shapeCast S1x128x128 (transpose S128x128 [1, 0] (arg10.view.readCov L (Rect.unit (s := S1920x512) ![128 * r.val, 128 * q.val] S128x128.size (inb_sq r q)).toLoadRect)
      transposes_S128x128_p1_0_S128x128) shapeCasts_S128x128_S1x128x128⟩

/-- The run's stores into the output block are the 60 squares, the last first. -/
theorem output_pieces :
    (kernelRun0_A c i arg2 harg2 arg3 harg3 arg4 harg4 arg5 harg5 arg6 harg6 arg7 harg7 arg8 harg8 arg9 harg9 arg10 harg10 x0 x1 x2 x3 x4 x5 x6).1
      = ([14, 13, 12, 11, 10, 9, 8, 7, 6, 5, 4, 3, 2, 1, 0] : List (Fin 15)).flatMap fun r => ([3, 2, 1, 0] : List (Fin 4)).map fun q =>
        outPiece arg10 (kernelRun0_A.sl.HS0_24 c i arg2 harg2 arg3 harg3 arg4 harg4 arg5 harg5 arg6 harg6 arg7 harg7 arg8 harg8 x0 x1 x2 x3 x4 x5 x6) r q :=
  rfl

end Cert.KernelIdeal.Attn

end
-- ==== Proof.HeadValue.lean ====
/-
  One head and query tile, over the extended reals, read at an index.
-/
module

public import proofs.«01_k».proof.Proof.Head
public import Idealize.ShloMosaic.Lib.Pointwise
public import Idealize.ShloMosaic.Lib.WordCmp

@[expose] public section

set_option maxRecDepth 16384

noncomputable section

namespace Cert.KernelIdeal.Attn

open Cert.KernelIdeal Cert.KernelIdeal.Gen Idealize.ShloMosaic Idealize.ShloMosaic.TcCoe Idealize.SL.Sem

/-- The code of a score `s` under factor `c` and half reciprocal `h`, before any mask. -/
def kcode (h c s : EReal) : EReal :=
  min (Ideal.ofBits .f32 0x43E00000#32) (max 0 (Ideal.tanh (s * c + Ideal.ofBits .f32 0xC047A05B#32) * h + h))

theorem square_apply (h c : Ideal .f32) (s : FVec Ideal S128x128 .f32) (a b : Fin 128) :
    square h c s (ix2 a b) = kcode h c (s (ix2 a b)) := by
  pointwise [square, kcode]

theorem lower_apply (h c : Ideal .f32) (s : FVec Ideal S128x128 .f32) (a b : Fin 128) :
    lower h c s (ix2 a b) = kcode h c (s (ix2 a b)) := by
  pointwise [lower]
  exact square_apply h c s a b

theorem mask_apply (a b : Fin 128) : k0_pay4 (ix2 a b) = BitVec.ofBool (decide (a.val ≤ b.val)) := by
  pointwise [k0_pay4]
  exact WordCmp.cmpi_sle_ofNat (by have := a.isLt; omega) (by have := b.isLt; omega)

theorem diagonal_apply (h c : Ideal .f32) (s : FVec Ideal S128x128 .f32) (a b : Fin 128) :
    diagonal h c s (ix2 a b) = if a.val ≤ b.val then kcode h c (s (ix2 a b)) else 0 := by
  pointwise [diagonal]
  rw [mask_apply, square_apply]
  by_cases hab : a.val ≤ b.val <;> simp [hab, Scalar.select]

theorem upper_apply (a b : Fin 128) : upper (F := Ideal) (ix2 a b) = 0 := by
  pointwise [upper]
  exact Ideal.ofBits_zero .fp8e4m3

theorem pair_apply (x y : FVec Ideal S128x128 .fp8e4m3) (a : Fin 128) (b : Fin 256) :
    pair x y (ix2 a b) = if h : b.val < 128 then x (ix2 a ⟨b.val, h⟩) else y (ix2 a ⟨b.val - 128, by omega⟩) := by
  pointwise [pair]

theorem scores256_apply (k : Vec Ideal S1x1x160x512 .fp8e4m3) (q : Vec Ideal S1x1x160x256 .fp8e4m3) (n j : Fin 256) :
    scores256 k q (ix2 n j) = ∑ d : Fin 160, k (ix4 0 0 d ⟨n.val, by omega⟩) * q (ix4 0 0 d j) := by
  pointwise [scores256, keysT]

theorem scores512_apply (k : Vec Ideal S1x1x160x512 .fp8e4m3) (q : Vec Ideal S1x1x160x256 .fp8e4m3) (n : Fin 512) (j : Fin 256) :
    scores512 k q (ix2 n j) = ∑ d : Fin 160, k (ix4 0 0 d n) * q (ix4 0 0 d j) := by
  pointwise [scores512, keysT]

/-- Equal runs and equal places give equal codes. -/
theorem kcode_congr {M N : ℕ} (h : Ideal .f32) (qs ks : Fin 4 → Ideal .f32) (s : FVec Ideal ⟨2, ![M, N]⟩ .f32) {q q' r r' : Fin 4}
    {a a' : Fin M} {b b' : Fin N} (hq : q.val = q'.val) (hr : r.val = r'.val) (ha : a.val = a'.val) (hb : b.val = b'.val) :
    kcode h (coef (qs q) (ks r)) (s (ix2 a b)) = kcode h (coef (qs q') (ks r')) (s (ix2 a' b')) := by
  rw [Fin.ext hq, Fin.ext hr, Fin.ext ha, Fin.ext hb]

/-- Codes of queries 0-255: the score's code where the key is not later than the query, zero elsewhere. -/
theorem codes256_apply (h : Ideal .f32) (qs ks : Fin 4 → Ideal .f32) (s : FVec Ideal S256x256 .f32) (n j : Fin 256) :
    codes256 h qs ks s (ix2 n j)
      = if n.val ≤ j.val then kcode h (coef (qs ⟨j.val / 128, by omega⟩) (ks ⟨n.val / 128, by omega⟩)) (s (ix2 n j)) else 0 := by
  pointwise [codes256]
  simp only [pair_apply, lower_apply, diagonal_apply, upper_apply]
  pointwise
  split_ifs <;> first
    | omega
    | rfl
    | (refine kcode_congr h qs ks s ?_ ?_ ?_ ?_ <;> simp <;> omega)
    | (refine (kcode_congr h qs ks s ?_ ?_ ?_ ?_).trans (if_pos (by omega)).symm <;> simp <;> omega)
    | exact (if_neg (by omega)).symm

/-- Codes of queries 256-511: the score's code where the key is not later than the query, zero elsewhere. -/
theorem codes512_apply (h : Ideal .f32) (qs ks : Fin 4 → Ideal .f32) (s : FVec Ideal S512x256 .f32) (n : Fin 512) (j : Fin 256) :
    codes512 h qs ks s (ix2 n j)
      = if n.val ≤ 256 + j.val then kcode h (coef (qs ⟨2 + j.val / 128, by omega⟩) (ks ⟨n.val / 128, by omega⟩)) (s (ix2 n j)) else 0 := by
  pointwise [codes512]
  simp only [pair_apply, lower_apply, diagonal_apply, upper_apply]
  pointwise
  split_ifs <;> first
    | omega
    | rfl
    | (refine kcode_congr h qs ks s ?_ ?_ ?_ ?_ <;> simp <;> omega)
    | (refine (kcode_congr h qs ks s ?_ ?_ ?_ ?_).trans (if_pos (by omega)).symm <;> simp <;> omega)
    | exact (if_neg (by omega)).symm

theorem scaled_apply (ps : Ideal .f32) (vs : Vec Ideal S1x1x160x256 .f32) (ot : FVec Ideal S160x256 .f32) (d : Fin 160) (j : Fin 256) :
    scaled ps vs ot (ix2 d j) = ot (ix2 d j) * (ps * vs (ix4 0 0 d j)) := by
  pointwise [scaled]

/-- Half the reciprocal of the code scale, as the body computes it. -/
theorem half_recip (ps : Ideal .f32) :
    k0_pay3 ps = Ideal.ofBits .f32 0x3F000000#32 * Ideal.div (Ideal.ofBits .f32 0x3F800000#32) ps := rfl

/-- The code weight of key `n` for query `j` of one head: its code where the key is not later than the query, zero elsewhere. -/
def weight (ps : Ideal .f32) (qs ks : Fin 4 → Ideal .f32) (n j : Fin 512) (s : EReal) : EReal :=
  if n.val ≤ j.val then kcode (k0_pay3 (F := Ideal) ps) (coef (F := Ideal) (qs ⟨j.val / 128, by omega⟩) (ks ⟨n.val / 128, by omega⟩)) s else 0

theorem firstHalf_apply (ps : Ideal .f32) (qs ks : Fin 4 → Ideal .f32) (k v : Vec Ideal S1x1x160x512 .fp8e4m3)
    (q : Vec Ideal S1x1x160x256 .fp8e4m3) (vs : Vec Ideal S1x1x160x256 .f32) (d : Fin 160) (j : Fin 256) :
    firstHalf ps qs ks k v q vs (ix2 d j)
      = (∑ n : Fin 512, v (ix4 0 0 d n) * weight ps qs ks n ⟨j.val, by omega⟩ (∑ e : Fin 160, k (ix4 0 0 e n) * q (ix4 0 0 e j)))
        * (ps * vs (ix4 0 0 d j)) := by
  rw [firstHalf, scaled_apply, Fin.sum_univ_two_halves 256 256 rfl]
  pointwise
  simp only [codes256_apply, scores256_apply]
  congr 1
  rw [Finset.sum_eq_zero (f := fun x : Fin 256 => v (ix4 0 0 d ⟨256 + x.val, by omega⟩) * _) fun x _ => ?_, add_zero]
  · rfl
  · rw [weight, if_neg (by show ¬ 256 + x.val ≤ j.val; omega), mul_zero]

theorem secondHalf_apply (ps : Ideal .f32) (qs ks : Fin 4 → Ideal .f32) (k v : Vec Ideal S1x1x160x512 .fp8e4m3)
    (q : Vec Ideal S1x1x160x256 .fp8e4m3) (vs : Vec Ideal S1x1x160x256 .f32) (d : Fin 160) (j : Fin 256) :
    secondHalf ps qs ks k v q vs (ix2 d j)
      = (∑ n : Fin 512, v (ix4 0 0 d n) * weight ps qs ks n ⟨256 + j.val, by omega⟩ (∑ e : Fin 160, k (ix4 0 0 e n) * q (ix4 0 0 e j)))
        * (ps * vs (ix4 0 0 d j)) := by
  rw [secondHalf, scaled_apply]
  pointwise
  simp only [codes512_apply, scores512_apply]
  congr 1
  refine Finset.sum_congr rfl fun n _ => congrArg (v (ix4 0 0 d n) * ·) ?_
  rw [weight]
  refine if_congr Iff.rfl (congrArg (fun r => kcode _ (coef (qs r) _) _) (Fin.ext ?_)) rfl
  show 2 + j.val / 128 = (256 + j.val) / 128
  omega

end Cert.KernelIdeal.Attn

end
-- ==== Proof.BlockValue.lean ====
/-
  What one grid point leaves in its output block, over the extended reals, read at an index.
-/
module

public import proofs.«01_k».proof.Proof.HeadValue
public import Idealize.ShloMosaic.Lib.Pipeline.ValueKit.Tiles

@[expose] public section

set_option maxRecDepth 16384

noncomputable section

namespace Cert.KernelIdeal.Attn

open Cert.KernelIdeal Cert.KernelIdeal.Gen Idealize.ShloMosaic Idealize.ShloMosaic.TcCoe Idealize.SL.Sem

variable (c : Dev nD) (i : grid0.Coords) (arg2 : Memref sig .tc .smem S3x4x24 .f32) (harg2 : arg2.IsWhole)
  (arg3 : Memref sig .tc .smem S3x4x8 .f32) (harg3 : arg3.IsWhole) (arg4 : Memref sig .tc .smem S1 .f32) (harg4 : arg4.IsWhole)
  (arg5 : Memref sig .tc .vmem S1x12x160x512 .fp8e4m3) (harg5 : arg5.IsWhole)
  (arg6 : Memref sig .tc .vmem S1x4x160x512 .fp8e4m3) (harg6 : arg6.IsWhole)
  (arg7 : Memref sig .tc .vmem S1x4x160x512 .fp8e4m3) (harg7 : arg7.IsWhole)
  (arg8 : Memref sig .tc .vmem S1x4x160x256 .f32) (harg8 : arg8.IsWhole)
  (arg9 : Memref sig .tc .vmem S1x512x1920 .bf16) (harg9 : arg9.IsWhole)
  (arg10 : Memref sig .tc .vmem S1920x512 .bf16) (harg10 : arg10.IsWhole)
  (x0 : Vec Ideal S3x4x24 .f32) (x1 : Vec Ideal S3x4x8 .f32) (x2 : Vec Ideal S1 .f32) (x3 : Vec Ideal S1x12x160x512 .fp8e4m3)
  (x4 : Vec Ideal S1x4x160x512 .fp8e4m3) (x5 : Vec Ideal S1x4x160x512 .fp8e4m3) (x6 : Vec Ideal S1x4x160x256 .f32)

/-- The batch of a grid point. -/
def batchOf : Fin 3 := i 0

/-- The query head of a grid point's head `hd`. -/
def queryHead (hd : Fin 12) : Fin 24 := ⟨12 * (i 1).val + hd.val, by have h : (i 1).val < 2 := (i 1).isLt; omega⟩

/-- The key head of a grid point's key head `g`. -/
def keyHead (g : Fin 4) : Fin 8 := ⟨4 * (i 1).val + g.val, by have h : (i 1).val < 2 := (i 1).isLt; omega⟩

/-! ## What is loaded, at an index -/

/-- A load through a unit rectangle of a buffer holding `X` reads `X` at any index with the coordinates `off a + x a`. -/
theorem load_apply {sp : Space} {s : Shape} {e : EltTy} (M : Memref sig .tc sp s e) (h : M.IsWhole) (X : s.Idx → Elt Ideal e)
    (off size : Fin s.rank → ℕ) (inb) (x : (Rect.unit off size inb).shape.Idx) (y : s.Idx) (hy : ∀ a, (y a).val = off a + (x a).val) :
    View.readAt (Elt Ideal) M.view (Rect.unit off size inb).toLoadRect (h.unread X) x = X y := by
  rw [View.readAt_eq_ld, h.read_unread]
  exact congrArg X (funext fun a => Fin.ext ((Rect.idx_unit_val off size inb x a).trans (hy a).symm))

/-- The same, the offsets given in closed form. -/
theorem load_apply_of {sp : Space} {s : Shape} {e : EltTy} (M : Memref sig .tc sp s e) (h : M.IsWhole) (X : s.Idx → Elt Ideal e)
    (off size off' : Fin s.rank → ℕ) (inb) (hoff : off = off') (x : (Rect.unit off size inb).shape.Idx) (y : s.Idx)
    (hy : ∀ a, (y a).val = off' a + (x a).val) :
    View.readAt (Elt Ideal) M.view (Rect.unit off size inb).toLoadRect (h.unread X) x = X y :=
  load_apply M h X off size inb x y fun a => (hy a).trans (congrArg (· + (x a).val) (congrFun hoff a).symm)

theorem ldQs_apply (hd : Fin 12) (r : Fin 4) :
    ldQs i arg2 harg2 x0 hd r = x0 (ix3 (batchOf i) r (queryHead i hd)) := by
  match r with
  | 0 => exact load_apply_of arg2 harg2 x0 _ _ _ _ (k0_off1_eq i hd) one3 _ fun a => by match a with | 0 => rfl | 1 => rfl | 2 => rfl
  | 1 => exact load_apply_of arg2 harg2 x0 _ _ _ _ (k0_off3_eq i hd) one3 _ fun a => by match a with | 0 => rfl | 1 => rfl | 2 => rfl
  | 2 => exact load_apply_of arg2 harg2 x0 _ _ _ _ (k0_off5_eq i hd) one3 _ fun a => by match a with | 0 => rfl | 1 => rfl | 2 => rfl
  | 3 => exact load_apply_of arg2 harg2 x0 _ _ _ _ (k0_off6_eq i hd) one3 _ fun a => by match a with | 0 => rfl | 1 => rfl | 2 => rfl

theorem ldKs_apply (g : Fin 4) (r : Fin 4) :
    ldKs i arg3 harg3 x1 g r = x1 (ix3 (batchOf i) r (keyHead i g)) := by
  match r with
  | 0 => exact load_apply_of arg3 harg3 x1 _ _ _ _ (k0_off2_eq i g) one3 _ fun a => by match a with | 0 => rfl | 1 => rfl | 2 => rfl
  | 1 => exact load_apply_of arg3 harg3 x1 _ _ _ _ (k0_off4_eq i g) one3 _ fun a => by match a with | 0 => rfl | 1 => rfl | 2 => rfl
  | 2 => exact load_apply_of arg3 harg3 x1 _ _ _ _ (k0_off7_eq i g) one3 _ fun a => by match a with | 0 => rfl | 1 => rfl | 2 => rfl
  | 3 => exact load_apply_of arg3 harg3 x1 _ _ _ _ (k0_off8_eq i g) one3 _ fun a => by match a with | 0 => rfl | 1 => rfl | 2 => rfl

theorem ldPs_apply : ldPs arg4 harg4 x2 = x2 (ix1 0) :=
  load_apply arg4 harg4 x2 _ _ _ _ _ fun a => by match a with | 0 => rfl

theorem ldQ_apply (hd : Fin 12) (o : ℕ) (ho : o + 256 ≤ 512) (e : Fin 160) (j : Fin 256) :
    ldQ arg5 harg5 x3 hd o ho (ix4 0 0 e j) = x3 (ix4 0 hd e ⟨o + j.val, by omega⟩) :=
  load_apply arg5 harg5 x3 _ _ _ _ _ fun a => by
    match a with | 0 => rfl | 1 => rfl | 2 => exact (Nat.zero_add _).symm | 3 => rfl

theorem ldK_apply (g : Fin 4) (e : Fin 160) (n : Fin 512) : ldK arg6 harg6 x4 g (ix4 0 0 e n) = x4 (ix4 0 g e n) :=
  load_apply arg6 harg6 x4 _ _ _ _ _ fun a => by
    match a with | 0 => rfl | 1 => rfl | 2 => exact (Nat.zero_add _).symm | 3 => exact (Nat.zero_add _).symm

theorem ldV_apply (g : Fin 4) (e : Fin 160) (n : Fin 512) : ldV arg7 harg7 x5 g (ix4 0 0 e n) = x5 (ix4 0 g e n) :=
  load_apply arg7 harg7 x5 _ _ _ _ _ fun a => by
    match a with | 0 => rfl | 1 => rfl | 2 => exact (Nat.zero_add _).symm | 3 => exact (Nat.zero_add _).symm

theorem ldVs_apply (g : Fin 4) (e : Fin 160) (j : Fin 256) : ldVs arg8 harg8 x6 g (ix4 0 0 e j) = x6 (ix4 0 g e j) :=
  load_apply arg8 harg8 x6 _ _ _ _ _ fun a => by
    match a with | 0 => rfl | 1 => rfl | 2 => exact (Nat.zero_add _).symm | 3 => exact (Nat.zero_add _).symm

/-! ## One head's result -/

/-- What a grid point computes for head `hd`, query `n`, feature `d`: the weighted sum of the values over the 512 keys, times the code
    scale times the value scale. -/
def headOut (hd : Fin 12) (n : Fin 512) (d : Fin 160) : EReal :=
  (∑ k : Fin 512, x5 (ix4 0 (kvOf hd) d k)
      * weight (x2 (ix1 0)) (fun r => x0 (ix3 (batchOf i) r (queryHead i hd))) (fun r => x1 (ix3 (batchOf i) r (keyHead i (kvOf hd)))) k n
        (∑ e : Fin 160, x4 (ix4 0 (kvOf hd) e k) * x3 (ix4 0 hd e n)))
    * (x2 (ix1 0) * x6 (ix4 0 (kvOf hd) d ⟨n.val % 256, Nat.mod_lt _ (by decide)⟩))

/-- The scratch, whole: row `160 * hd + d`, column `n` holds `headOut hd n d`. -/
def scr : S1920x512.Idx → Elt Ideal .bf16 := fun y =>
  headOut i x0 x1 x2 x3 x4 x5 x6 ⟨(y 0).val / 160, by have h : (y 0).val < 1920 := (y 0).isLt; omega⟩ (y 1)
    ⟨(y 0).val % 160, Nat.mod_lt _ (by decide)⟩

/-- The scratch at row `160 * hd + d`. -/
theorem scr_apply (y : S1920x512.Idx) (hd : Fin 12) (n : Fin 512) (d : Fin 160) (h0 : (y 0).val = 160 * hd.val + d.val) (h1 : (y 1).val = n.val) :
    scr i x0 x1 x2 x3 x4 x5 x6 y = headOut i x0 x1 x2 x3 x4 x5 x6 hd n d := by
  have e0 : (⟨(y 0).val / 160, by have h : (y 0).val < 1920 := (y 0).isLt; omega⟩ : Fin 12) = hd := Fin.ext (by show (y 0).val / 160 = _; omega)
  have e1 : y 1 = n := Fin.ext h1
  have e2 : (⟨(y 0).val % 160, Nat.mod_lt _ (by decide)⟩ : Fin 160) = d := Fin.ext (by show (y 0).val % 160 = _; omega)
  unfold scr
  rw [e0, e1, e2]

/-- The store of queries 0-255 of head `hd` is the scratch's block there. -/
theorem piece0_apply (hd : Fin 12) (x) :
    (piece0 i arg2 harg2 arg3 harg3 arg4 harg4 arg5 harg5 arg6 harg6 arg7 harg7 arg8 harg8 x0 x1 x2 x3 x4 x5 x6 hd).2 x = scr i x0 x1 x2 x3 x4 x5 x6 ((piece0 i arg2 harg2 arg3 harg3 arg4 harg4 arg5 harg5 arg6 harg6 arg7 harg7 arg8 harg8 x0 x1 x2 x3 x4 x5 x6 hd).1.emb x) := by
  change S160x256.Idx at x
  obtain ⟨d, j, rfl⟩ : ∃ (d : Fin 160) (j : Fin 256), x = ix2 d j := ⟨x 0, x 1, eq_ix2 x⟩
  refine Eq.trans ?_ (scr_apply i x0 x1 x2 x3 x4 x5 x6 _ hd ⟨j.val, by omega⟩ d (Rect.idx_unit_val (s := S1920x512) ![160 * hd.val, 0] S160x256.size (inb_scr hd 0 (by omega)) (ix2 d j) 0)
    ((Rect.idx_unit_val (s := S1920x512) ![160 * hd.val, 0] S160x256.size (inb_scr hd 0 (by omega)) (ix2 d j) 1).trans (Nat.zero_add _))).symm
  refine (firstHalf_apply _ _ _ _ _ _ _ d j).trans ?_
  simp only [ldPs_apply, ldK_apply, ldV_apply, ldQ_apply, ldVs_apply, Nat.zero_add, headOut,
    funext (ldQs_apply i arg2 harg2 x0 hd), funext (ldKs_apply i arg3 harg3 x1 (kvOf hd)), Nat.mod_eq_of_lt j.isLt]

/-- The store of queries 256-511 of head `hd` is the scratch's block there. -/
theorem piece1_apply (hd : Fin 12) (x) :
    (piece1 i arg2 harg2 arg3 harg3 arg4 harg4 arg5 harg5 arg6 harg6 arg7 harg7 arg8 harg8 x0 x1 x2 x3 x4 x5 x6 hd).2 x = scr i x0 x1 x2 x3 x4 x5 x6 ((piece1 i arg2 harg2 arg3 harg3 arg4 harg4 arg5 harg5 arg6 harg6 arg7 harg7 arg8 harg8 x0 x1 x2 x3 x4 x5 x6 hd).1.emb x) := by
  change S160x256.Idx at x
  obtain ⟨d, j, rfl⟩ : ∃ (d : Fin 160) (j : Fin 256), x = ix2 d j := ⟨x 0, x 1, eq_ix2 x⟩
  refine Eq.trans ?_ (scr_apply i x0 x1 x2 x3 x4 x5 x6 _ hd ⟨256 + j.val, by omega⟩ d (Rect.idx_unit_val (s := S1920x512) ![160 * hd.val, 256] S160x256.size (inb_scr hd 256 (by omega)) (ix2 d j) 0)
    (Rect.idx_unit_val (s := S1920x512) ![160 * hd.val, 256] S160x256.size (inb_scr hd 256 (by omega)) (ix2 d j) 1)).symm
  refine (secondHalf_apply _ _ _ _ _ _ _ d j).trans ?_
  simp only [ldPs_apply, ldK_apply, ldV_apply, ldQ_apply, ldVs_apply, headOut,
    funext (ldQs_apply i arg2 harg2 x0 hd), funext (ldKs_apply i arg3 harg3 x1 (kvOf hd)), Nat.add_mod_left, Nat.mod_eq_of_lt j.isLt]

/-- The scratch read back after the body's stores, over any contents. -/
theorem read_scratch (f) (y : S1920x512.Idx) :
    arg10.view.read (Elt Ideal) (arg10.view.writes (Elt Ideal) f (kernelRun0_A.sl.HS0_24 c i arg2 harg2 arg3 harg3 arg4 harg4 arg5 harg5 arg6 harg6 arg7 harg7 arg8 harg8 x0 x1 x2 x3 x4 x5 x6)) y = scr i x0 x1 x2 x3 x4 x5 x6 y := by
  refine View.read_writes_apply_of_pieces arg10.view f _ _ ?_ y
    (View.cover_of_tiledL (kernelRun0_A.sl.HS0_24 c i arg2 harg2 arg3 harg3 arg4 harg4 arg5 harg5 arg6 harg6 arg7 harg7 arg8 harg8 x0 x1 x2 x3 x4 x5 x6) S160x256.size (by sl_kernel_rfl) y)
  rw [scratch_pieces]
  intro p hp x
  obtain ⟨hd, -, hp⟩ := List.mem_flatMap.1 hp
  simp only [pieces, List.mem_cons, List.not_mem_nil, or_false] at hp
  rcases hp with rfl | rfl
  · exact piece1_apply i arg2 harg2 arg3 harg3 arg4 harg4 arg5 harg5 arg6 harg6 arg7 harg7 arg8 harg8 x0 x1 x2 x3 x4 x5 x6 hd x
  · exact piece0_apply i arg2 harg2 arg3 harg3 arg4 harg4 arg5 harg5 arg6 harg6 arg7 harg7 arg8 harg8 x0 x1 x2 x3 x4 x5 x6 hd x

/-! ## The output block -/

theorem idx_square (x : S1x128x128.Idx) : ∃ a b : Fin 128, x = ix3 0 a b :=
  ⟨x 1, x 2, by
    have h : x 0 = (0 : Fin 1) := Fin.ext (by have : (x 0).val < 1 := (x 0).isLt; show (x 0).val = 0; omega)
    exact (eq_ix3 x).trans (by rw [h])⟩

/-- An output square at an index: the scratch read at the transposed place. -/
theorem outPiece_apply (L : List (View.Piece (Elt Ideal) S1920x512 .bf16)) (r : Fin 15) (q : Fin 4) (a b : Fin 128) :
    (outPiece arg10 L r q).2 (ix3 (n0 := 1) 0 a b)
      = arg10.view.readCov L (Rect.unit (s := S1920x512) ![128 * r.val, 128 * q.val] S128x128.size (inb_sq r q)).toLoadRect (ix2 b a) := by
  show shapeCast S1x128x128 (transpose (s := S128x128) S128x128 [1, 0] (arg10.view.readCov L
    (Rect.unit (s := S1920x512) ![128 * r.val, 128 * q.val] S128x128.size (inb_sq r q)).toLoadRect) transposes_S128x128_p1_0_S128x128)
      shapeCasts_S128x128_S1x128x128 (ix3 0 a b) = _
  generalize arg10.view.readCov L (Rect.unit (s := S1920x512) ![128 * r.val, 128 * q.val] S128x128.size (inb_sq r q)).toLoadRect = X
  pointwise

/-- What a grid point leaves at query `n`, column `160 * hd + d` of its output block: `headOut hd n d`. -/
theorem block_apply (n : Fin 512) (r : Fin 1920) :
    out0_A_7 c i arg2 harg2 arg3 harg3 arg4 harg4 arg5 harg5 arg6 harg6 arg7 harg7 arg8 harg8 arg9 harg9 arg10 harg10 x0 x1 x2 x3 x4 x5 x6 (ix3 0 n r) = scr i x0 x1 x2 x3 x4 x5 x6 (ix2 r n) := by
  refine View.read_writes_apply_of_pieces VO0_7 _ (fun y => scr i x0 x1 x2 x3 x4 x5 x6 (ix2 (y 2) (y 1))) _ ?_ (ix3 0 n r) (cover0_A_7 c i arg2 harg2 arg3 harg3 arg4 harg4 arg5 harg5 arg6 harg6 arg7 harg7 arg8 harg8 arg9 harg9 arg10 harg10 x0 x1 x2 x3 x4 x5 x6 _)
  rw [output_pieces]
  intro p hp x
  obtain ⟨r, -, hp⟩ := List.mem_flatMap.1 hp
  obtain ⟨q, -, rfl⟩ := List.mem_map.1 hp
  obtain ⟨a, b, rfl⟩ := idx_square x
  refine (outPiece_apply arg10 _ r q a b).trans ?_
  refine (read_scratch c i arg2 harg2 arg3 harg3 arg4 harg4 arg5 harg5 arg6 harg6 arg7 harg7 arg8 harg8 arg10 x0 x1 x2 x3 x4 x5 x6 _ _).trans (congrArg (scr i x0 x1 x2 x3 x4 x5 x6) ?_)
  refine funext fun t => Fin.ext ?_
  match t with
  | 0 => exact (Rect.idx_unit_val (s := S1920x512) ![128 * r.val, 128 * q.val] S128x128.size (inb_sq r q) (ix2 b a) 0).trans (Rect.idx_unit_val (s := S1x512x1920) ![0, 128 * q.val, 128 * r.val] S1x128x128.size (inb_out r q) (ix3 0 a b) 2).symm
  | 1 => exact (Rect.idx_unit_val (s := S1920x512) ![128 * r.val, 128 * q.val] S128x128.size (inb_sq r q) (ix2 b a) 1).trans (Rect.idx_unit_val (s := S1x512x1920) ![0, 128 * q.val, 128 * r.val] S1x128x128.size (inb_out r q) (ix3 0 a b) 1).symm

end Cert.KernelIdeal.Attn

end
-- ==== Proof.KernelArray.lean ====
/-
  The kernel's result array after the run, over the extended reals, as one function of the arguments.
-/
module

public import proofs.«01_k».proof.Proof.BlockValue
public import proofs.«01_k».proof.Proof.Gen.KernelIdeal.Value
public import Idealize.ShloMosaic.Lib.Pipeline.ValueKit
public import Idealize.ShloMosaic.Lib.Claim

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-! ## Where the blocks lie -/

/-- The block indices of the windows that move, at every grid point. -/
theorem idx (t : Fin cfg0.N) :
    win0_0.index t = ![0, 0, 0] ∧ win0_1.index t = ![0, 0, 0] ∧ win0_2.index t = ![0]
    ∧ win0_3.index t = ![(grid0.coords t 0).val, (grid0.coords t 1).val, 0, 0]
    ∧ win0_4.index t = ![(grid0.coords t 0).val, (grid0.coords t 1).val, 0, 0]
    ∧ win0_5.index t = ![(grid0.coords t 0).val, (grid0.coords t 1).val, 0, 0]
    ∧ win0_6.index t = ![(grid0.coords t 1).val, 0, 0, 0]
    ∧ win0_7.index t = ![(grid0.coords t 0).val, 0, (grid0.coords t 1).val] :=
  (by decide +kernel : ∀ t : Fin grid0.N, win0_0.index t = ![0, 0, 0] ∧ win0_1.index t = ![0, 0, 0] ∧ win0_2.index t = ![0]
    ∧ win0_3.index t = ![(grid0.coords t 0).val, (grid0.coords t 1).val, 0, 0]
    ∧ win0_4.index t = ![(grid0.coords t 0).val, (grid0.coords t 1).val, 0, 0]
    ∧ win0_5.index t = ![(grid0.coords t 0).val, (grid0.coords t 1).val, 0, 0]
    ∧ win0_6.index t = ![(grid0.coords t 1).val, 0, 0, 0]
    ∧ win0_7.index t = ![(grid0.coords t 0).val, 0, (grid0.coords t 1).val]) t

/-! ## The blocks a grid point finds, at an index -/

theorem blk0 (c : Dev nD) (t : Fin cfg0.N) (b : Fin 3) (r : Fin 4) (h : Fin 24) :
    iblk m c 0 t (ix3 b r h) = m ((c : Thread nD τ).loc main_arg1) (ix3 b r h) := by
  blk_ext [iblk, V, idx t]

theorem blk1 (c : Dev nD) (t : Fin cfg0.N) (b : Fin 3) (r : Fin 4) (h : Fin 8) :
    iblk m c 1 t (ix3 b r h) = m ((c : Thread nD τ).loc main_arg3) (ix3 b r h) := by
  blk_ext [iblk, V, idx t]

theorem blk2 (c : Dev nD) (t : Fin cfg0.N) :
    iblk m c 2 t (ix1 0) = m ((c : Thread nD τ).loc main_arg6) ix0 := by
  blk_simp [iblk, idx t]; entry_read; pointwise

theorem blk3 (c : Dev nD) (t : Fin cfg0.N) (hd : Fin 12) (e : Fin 160) (n : Fin 512) :
    iblk m c 3 t (ix4 0 hd e n) = m ((c : Thread nD τ).loc main_arg0) (ix4 (batchOf (grid0.coords t)) n (queryHead (grid0.coords t) hd) e) := by
  blk_simp [iblk, idx t]; entry_read; pointwise
  blk_ext [idx t, batchOf, queryHead, keyHead]

theorem blk4 (c : Dev nD) (t : Fin cfg0.N) (g : Fin 4) (e : Fin 160) (n : Fin 512) :
    iblk m c 4 t (ix4 0 g e n) = m ((c : Thread nD τ).loc main_arg2) (ix4 (batchOf (grid0.coords t)) n (keyHead (grid0.coords t) g) e) := by
  blk_simp [iblk, idx t]; entry_read; pointwise
  blk_ext [idx t, batchOf, queryHead, keyHead]

theorem blk5 (c : Dev nD) (t : Fin cfg0.N) (g : Fin 4) (e : Fin 160) (n : Fin 512) :
    iblk m c 5 t (ix4 0 g e n) = m ((c : Thread nD τ).loc main_arg4) (ix4 (batchOf (grid0.coords t)) n (keyHead (grid0.coords t) g) e) := by
  blk_simp [iblk, idx t]; entry_read; pointwise
  blk_ext [idx t, batchOf, queryHead, keyHead]

theorem blk6 (c : Dev nD) (t : Fin cfg0.N) (g : Fin 4) (e : Fin 160) (j : Fin 256) :
    iblk m c 6 t (ix4 0 g e j) = m ((c : Thread nD τ).loc main_arg5) (ix2 (keyHead (grid0.coords t) g) e) := by
  blk_simp [iblk, idx t]; entry_read; pointwise
  split_ifs <;> blk_ext [idx t, keyHead]

/-! ## The result -/

variable (A0 : FVec Ideal S3x512x24x160 .fp8e4m3) (A1 : FVec Ideal S3x4x24 .f32) (A2 : FVec Ideal S3x512x8x160 .fp8e4m3)
  (A3 : FVec Ideal S3x4x8 .f32) (A4 : FVec Ideal S3x512x8x160 .fp8e4m3) (A5 : FVec Ideal S8x160 .f32) (A6 : FVec Ideal S_ .f32)

/-- The key head of query head `h`: three query heads share one. -/
def groupOf (h : Fin 24) : Fin 8 := ⟨h.val / 3, by omega⟩

/-- The kernel's result at batch `b`, query `n`, head `h`, feature `d`, as a function of the argument arrays. -/
def result (b : Fin 3) (n : Fin 512) (h : Fin 24) (d : Fin 160) : EReal :=
  (∑ k : Fin 512, A4 (ix4 b k (groupOf h) d)
      * weight (A6 ix0) (fun r => A1 (ix3 b r h)) (fun r => A3 (ix3 b r (groupOf h))) k n
        (∑ e : Fin 160, A2 (ix4 b k (groupOf h) e) * A0 (ix4 b n h e)))
    * (A6 ix0 * A5 (ix2 (groupOf h) d))

/-- The kernel's result array: column `160 * h + d` holds head `h`'s feature `d`. -/
def resultArray : FVec Ideal S3x512x3840 .bf16 := fun y =>
  result A0 A1 A2 A3 A4 A5 A6 (y 0) (y 1) ⟨(y 2).val / 160, by have h : (y 2).val < 3840 := (y 2).isLt; omega⟩
    ⟨(y 2).val % 160, Nat.mod_lt _ (by decide)⟩

theorem resultArray_apply (y : S3x512x3840.Idx) (b : Fin 3) (n : Fin 512) (h : Fin 24) (d : Fin 160) (h0 : (y 0).val = b.val)
    (h1 : (y 1).val = n.val) (h2 : (y 2).val = 160 * h.val + d.val) :
    resultArray A0 A1 A2 A3 A4 A5 A6 y = result A0 A1 A2 A3 A4 A5 A6 b n h d := by
  have e0 : y 0 = b := Fin.ext h0
  have e1 : y 1 = n := Fin.ext h1
  have e2 : (⟨(y 2).val / 160, by have h : (y 2).val < 3840 := (y 2).isLt; omega⟩ : Fin 24) = h :=
    Fin.ext (by show (y 2).val / 160 = _; omega)
  have e3 : (⟨(y 2).val % 160, Nat.mod_lt _ (by decide)⟩ : Fin 160) = d := Fin.ext (by show (y 2).val % 160 = _; omega)
  unfold resultArray
  rw [e0, e1, e2, e3]

theorem groupOf_queryHead (i : grid0.Coords) (hd : Fin 12) : groupOf (queryHead i hd) = keyHead i (kvOf hd) :=
  Fin.ext (by show (12 * (i 1).val + hd.val) / 3 = 4 * (i 1).val + hd.val / 3; omega)

/-- What a grid point computes from its blocks is the result at its batch and heads. -/
theorem headOut_eq (c : Dev nD) (t : Fin cfg0.N) (hd : Fin 12) (n : Fin 512) (d : Fin 160) :
    headOut (grid0.coords t) (iblk m c 0 t) (iblk m c 1 t) (iblk m c 2 t) (iblk m c 3 t) (iblk m c 4 t) (iblk m c 5 t) (iblk m c 6 t) hd n d
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (batchOf (grid0.coords t)) n (queryHead (grid0.coords t) hd) d := by
  unfold headOut result
  rw [groupOf_queryHead]
  simp only [blk0, blk1, blk2, blk3, blk4, blk5, blk6]

/-- An index of an output block: a query, and a head and feature for the column. -/
theorem idx_block (y : S1x512x1920.Idx) :
    ∃ (n : Fin 512) (hd : Fin 12) (d : Fin 160), y = ix3 0 n ⟨160 * hd.val + d.val, by omega⟩ := by
  have h2 : (y 2).val < 1920 := (y 2).isLt
  refine ⟨y 1, ⟨(y 2).val / 160, by omega⟩, ⟨(y 2).val % 160, by omega⟩, (eq_ix3 y).trans ?_⟩
  have e0 : y 0 = (0 : Fin 1) := Fin.ext (by have : (y 0).val < 1 := (y 0).isLt; show (y 0).val = 0; omega)
  have e2 : y 2 = (⟨160 * ((y 2).val / 160) + (y 2).val % 160, by omega⟩ : Fin 1920) := Fin.ext (by show _ = 160 * _ + _; omega)
  rw [e0]
  exact congrArg (ix3 0 (y 1)) e2

/-- The kernel's result array after the run. -/
theorem kernel_value (c : Dev nD) :
    (dats m 0 c).arrAt 7 cfg0.N
      = resultArray (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dats m 0 c).arrAt_eq_of_covers 7 _ (by decide +kernel) fun t hf y => ?_
  blk_simp
  obtain ⟨n, hd, d, rfl⟩ := idx_block y
  rw [after0_7]
  refine (block_apply c (grid0.coords t) _ _ _ _ _ _ _ _ _ _ _ _ _ _ _ _ _ _ _ _ _ _ _ _ _ n ⟨160 * hd.val + d.val, by omega⟩).trans ?_
  refine (scr_apply _ _ _ _ _ _ _ _ _ hd n d rfl rfl).trans ((headOut_eq m c t hd n d).trans (resultArray_apply _ _ _ _ _ _ _ _ _ _ _ _ ?_ ?_ ?_).symm)
  · blk_simp [idx t]; simp [batchOf]
  · blk_simp [idx t]
  · blk_simp [idx t]; simp only [queryHead]; omega

end Cert.KernelIdeal.Attn

end
-- ==== Proof.ReferenceValue.lean ====
/-
  The reference's body over the extended reals, read at an index.
-/
module

public import proofs.«01_k».proof.Proof.Gen.ReferenceIdeal.Value
public import Idealize.ShloMosaic.Lib.Pointwise
public import Idealize.ShloMosaic.Lib.WordCmp
public import Idealize.ShloMosaic.Lib.Pipeline.ValueKit
public import Idealize.ShloMosaic.Lib.Claim

@[expose] public section

set_option maxRecDepth 16384

noncomputable section

namespace Cert.ReferenceIdeal.Attn

open Cert.ReferenceIdeal Cert.ReferenceIdeal.Gen Idealize.ShloMosaic Idealize.ShloMosaic.TcCoe Idealize.SL.Sem
open Idealize.ShloMosaic.Pipeline (Dat)

/-- The unrounded code of a score `s` under query scale `a`, key scale `b` and code scale `ps`, visible or not. -/
def rcode (ps a b s : EReal) (visible : Prop) [Decidable visible] : EReal :=
  max 0 ((if visible then Ideal.logistic (s * (a * b * Ideal.ofBits .f32 0x3DA1E89B#32) + Ideal.ofBits .f32 0xC0C7A05B#32) else 0)
    * Ideal.div (Ideal.ofBits .f32 0x3F800000#32) ps)

theorem pay3_apply (v0 : Vec Ideal S3x8x3x512x160 .fp8e4m3) (v2 : Vec Ideal S3x8x512x160 .fp8e4m3) (v5 : Vec Ideal S3x8x3x512 .f32)
    (v8 : Vec Ideal S3x8x512 .f32) (v27 : Vec Ideal S1x1 .f32) (b : Fin 3) (g : Fin 8) (r : Fin 3) (n k : Fin 512) :
    k0_pay3 v0 v2 v5 v8 v27 (ix5 b g r n k)
      = rcode (v27 (ix2 0 0)) (v5 (ix4 b g r n)) (v8 (ix3 b g k)) (∑ e : Fin 160, v0 (ix5 b g r n e) * v2 (ix4 b g k e)) (k.val ≤ n.val) := by
  pointwise [k0_pay3, k0_pay2, rcode]
  rw [WordCmp.cmpi_sle_ofNat (by omega) (by omega)]
  by_cases h : k.val ≤ n.val <;> simp [h, Scalar.select]

theorem pay1_apply (v28 : Ideal .f32) (v33 v34 : FVec Ideal S3x8x3x512x512 .f32) (v37 : Vec Ideal S3x8x512x160 .fp8e4m3) (v41 : Vec Ideal S8x160 .f32)
    (b : Fin 3) (n : Fin 512) (g : Fin 8) (r : Fin 3) (d : Fin 160) :
    k0_pay1 v28 v33 v34 v37 v41 (ix3 b n ⟨160 * (3 * g.val + r.val) + d.val, by omega⟩)
      = (∑ k : Fin 512, v37 (ix4 b g k d) * min (v34 (ix5 b g r n k)) (v33 (ix5 b g r n k))) * (v28 * v41 (ix2 g d)) := by
  pointwise [k0_pay1]

/-! ## The blocks of the one grid point, at an index -/

variable (m : (ℓ : Loc nD τ sig) → Buf (Elt Ideal) ℓ)

/-- Every window's block is its whole array. -/
theorem idx (t : Fin cfg0.N) :
    win0_0.index t = ![0, 0, 0, 0, 0] ∧ win0_1.index t = ![0, 0, 0, 0] ∧ win0_2.index t = ![0, 0, 0, 0] ∧ win0_3.index t = ![0, 0, 0]
    ∧ win0_4.index t = ![0, 0, 0, 0] ∧ win0_5.index t = ![0, 0] ∧ win0_6.index t = ![0, 0] ∧ win0_7.index t = ![0, 0, 0] :=
  (by decide +kernel : ∀ t : Fin grid0.N,
    win0_0.index t = ![0, 0, 0, 0, 0] ∧ win0_1.index t = ![0, 0, 0, 0] ∧ win0_2.index t = ![0, 0, 0, 0] ∧ win0_3.index t = ![0, 0, 0]
    ∧ win0_4.index t = ![0, 0, 0, 0] ∧ win0_5.index t = ![0, 0] ∧ win0_6.index t = ![0, 0] ∧ win0_7.index t = ![0, 0, 0]) t

theorem blk0 (c : Dev nD) (t : Fin cfg0.N) (b : Fin 3) (g : Fin 8) (r : Fin 3) (n : Fin 512) (e : Fin 160) :
    iblk m c 0 t (ix5 b g r n e) = m ((c : Thread nD τ).loc main_arg0) (ix4 b n ⟨3 * g.val + r.val, by omega⟩ e) := by
  blk_simp [iblk, idx t]; entry_read; pointwise; blk_ext [idx t]

theorem blk1 (c : Dev nD) (t : Fin cfg0.N) (b : Fin 3) (g : Fin 8) (r : Fin 3) (n : Fin 512) :
    iblk m c 1 t (ix4 b g r n) = m ((c : Thread nD τ).loc main_arg1) (ix3 b ⟨n.val / 128, by omega⟩ ⟨3 * g.val + r.val, by omega⟩) := by
  blk_simp [iblk, idx t]; entry_read; pointwise; blk_ext [idx t]

theorem blk2 (c : Dev nD) (t : Fin cfg0.N) (b : Fin 3) (g : Fin 8) (k : Fin 512) (e : Fin 160) :
    iblk m c 2 t (ix4 b g k e) = m ((c : Thread nD τ).loc main_arg2) (ix4 b k g e) := by
  blk_simp [iblk, idx t]; entry_read; pointwise; blk_ext [idx t]

theorem blk3 (c : Dev nD) (t : Fin cfg0.N) (b : Fin 3) (g : Fin 8) (k : Fin 512) :
    iblk m c 3 t (ix3 b g k) = m ((c : Thread nD τ).loc main_arg3) (ix3 b ⟨k.val / 128, by omega⟩ g) := by
  blk_simp [iblk, idx t]; entry_read; pointwise; blk_ext [idx t]

theorem blk4 (c : Dev nD) (t : Fin cfg0.N) (b : Fin 3) (g : Fin 8) (k : Fin 512) (e : Fin 160) :
    iblk m c 4 t (ix4 b g k e) = m ((c : Thread nD τ).loc main_arg4) (ix4 b k g e) := by
  blk_simp [iblk, idx t]; entry_read; pointwise; blk_ext [idx t]

theorem blk5 (c : Dev nD) (t : Fin cfg0.N) (g : Fin 8) (d : Fin 160) :
    iblk m c 5 t (ix2 g d) = m ((c : Thread nD τ).loc main_arg5) (ix2 g d) := by
  blk_ext [iblk, V, idx t]

theorem blk6 (c : Dev nD) (t : Fin cfg0.N) : iblk m c 6 t (ix2 0 0) = m ((c : Thread nD τ).loc main_arg6) ix0 := by
  blk_simp [iblk, idx t]; entry_read; pointwise

end Cert.ReferenceIdeal.Attn

end
-- ==== Proof.ReferenceArray.lean ====
/-
  The reference's result array after the run, over the extended reals, as one function of the arguments.
-/
module

public import proofs.«01_k».proof.Proof.ReferenceValue

@[expose] public section

set_option maxRecDepth 16384

noncomputable section

namespace Cert.ReferenceIdeal.Attn

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ)

variable (A0 : FVec Ideal S3x512x24x160 .fp8e4m3) (A1 : FVec Ideal S3x4x24 .f32) (A2 : FVec Ideal S3x512x8x160 .fp8e4m3)
  (A3 : FVec Ideal S3x4x8 .f32) (A4 : FVec Ideal S3x512x8x160 .fp8e4m3) (A5 : FVec Ideal S8x160 .f32) (A6 : FVec Ideal S_ .f32)

/-- The reference's result at batch `b`, query `n`, key head `g`, query head `r` of its group and feature `d`. -/
def result (b : Fin 3) (n : Fin 512) (g : Fin 8) (r : Fin 3) (d : Fin 160) : EReal :=
  (∑ k : Fin 512, A4 (ix4 b k g d)
      * min (Ideal.ofBits .f32 0x43E00000#32)
          (rcode (A6 ix0) (A1 (ix3 b ⟨n.val / 128, by omega⟩ ⟨3 * g.val + r.val, by omega⟩)) (A3 (ix3 b ⟨k.val / 128, by omega⟩ g))
            (∑ e : Fin 160, A0 (ix4 b n ⟨3 * g.val + r.val, by omega⟩ e) * A2 (ix4 b k g e)) (k.val ≤ n.val)))
    * (A6 ix0 * A5 (ix2 g d))

/-- An index of the result: a batch, a query, and a key head, query head of its group and feature for the column. -/
theorem idx_result (y : S3x512x3840.Idx) :
    ∃ (b : Fin 3) (n : Fin 512) (g : Fin 8) (r : Fin 3) (d : Fin 160),
      y = ix3 b n ⟨160 * (3 * g.val + r.val) + d.val, by omega⟩ := by
  have h2 : (y 2).val < 3840 := (y 2).isLt
  refine ⟨y 0, y 1, ⟨(y 2).val / 480, by omega⟩, ⟨(y 2).val / 160 % 3, by omega⟩, ⟨(y 2).val % 160, by omega⟩, (eq_ix3 y).trans ?_⟩
  exact congrArg (ix3 (y 0) (y 1)) (Fin.ext (by show (y 2).val = 160 * (3 * ((y 2).val / 480) + (y 2).val / 160 % 3) + (y 2).val % 160; omega))

/-- The reference's result array: any array that holds `result` at each index. -/
theorem reference_value (c : Dev nD) (G : FVec Ideal S3x512x3840 .bf16)
    (hG : ∀ (b : Fin 3) (n : Fin 512) (g : Fin 8) (r : Fin 3) (d : Fin 160),
      G (ix3 b n ⟨160 * (3 * g.val + r.val) + d.val, by omega⟩)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) b n g r d) :
    (dats m 0 c).arrAt 7 cfg0.N = G := by
  refine (dats m 0 c).arrAt_eq_of_covers 7 _ (by decide +kernel) fun t hf y => ?_
  blk_simp
  obtain ⟨b, n, g, r, d, rfl⟩ := idx_result y
  rw [after0_7]
  frame_out
  rw [pay1_apply]
  simp only [pay3_apply, blk0, blk1, blk2, blk3, blk4, blk5]
  have hy : ((View.whole main_v14).slice (win0_7.rect t)).emb (ix3 b n ⟨160 * (3 * g.val + r.val) + d.val, by omega⟩)
      = (ix3 b n ⟨160 * (3 * g.val + r.val) + d.val, by omega⟩ : S3x512x3840.Idx) := by
    blk_ext [idx t]
  have h6 : k0_pay2 (iblk m c 6 t) = m ((c : Thread nD τ).loc main_arg6) ix0 := blk6 m c t
  rw [blk6, h6]
  refine Eq.trans ?_ ((congrArg G hy).trans (hG b n g r d)).symm
  rfl

end Cert.ReferenceIdeal.Attn

end
-- ==== Proof.Code.lean ====
/-
  The identity the two programs differ by: the logistic function of a number is half of one plus the hyperbolic tangent of half that
  number. With it the code the kernel computes from a score is the code the reference computes.
-/
module

public import proofs.«01_k».proof.Proof.HeadValue
public import proofs.«01_k».proof.Proof.ReferenceValue
public import Idealize.ShloMosaic.Lib.IdealHost

@[expose] public section

noncomputable section

namespace Cert.Proof.Code

open Idealize.ShloMosaic
open Cert.KernelIdeal.Attn (kcode)
open Cert.ReferenceIdeal.Attn (rcode)

/-! ## The constants -/

theorem score_factor_kernel : Ideal.ofBits .f32 0x3D21E89B#32 = ((10610843 / 268435456 : ℝ) : EReal) := by
  simp [Ideal.ofBits, Ideal.ieee, -EReal.coe_mul]; norm_num

theorem score_factor_reference : Ideal.ofBits .f32 0x3DA1E89B#32 = ((10610843 / 134217728 : ℝ) : EReal) := by
  simp [Ideal.ofBits, Ideal.ieee, -EReal.coe_mul]; norm_num

/-- The reference's score factor is twice the kernel's. -/
theorem score_factor : Ideal.ofBits .f32 0x3DA1E89B#32 = ((2 : ℝ) : EReal) * Ideal.ofBits .f32 0x3D21E89B#32 := by
  rw [score_factor_kernel, score_factor_reference, ← EReal.coe_mul]
  norm_num

theorem bias_kernel : Ideal.ofBits .f32 0xC047A05B#32 = ((-(13082715 / 4194304) : ℝ) : EReal) := by
  simp [Ideal.ofBits, Ideal.ieee, -EReal.coe_mul, -EReal.coe_neg]; norm_num

theorem bias_reference : Ideal.ofBits .f32 0xC0C7A05B#32 = ((-(13082715 / 2097152) : ℝ) : EReal) := by
  simp [Ideal.ofBits, Ideal.ieee, -EReal.coe_mul, -EReal.coe_neg]; norm_num

/-- The kernel's bias is a real number, and the reference's is twice it. -/
theorem bias : ∃ β : ℝ, Ideal.ofBits .f32 0xC047A05B#32 = (β : EReal) ∧ Ideal.ofBits .f32 0xC0C7A05B#32 = ((2 * β : ℝ) : EReal) :=
  ⟨_, bias_kernel, by rw [bias_reference]; norm_num⟩

theorem half : Ideal.ofBits .f32 0x3F000000#32 = ((1 / 2 : ℝ) : EReal) := by
  simp [Ideal.ofBits, Ideal.ieee, -EReal.coe_mul]; norm_num

theorem largest : Ideal.ofBits .f32 0x43E00000#32 = ((448 : ℝ) : EReal) := by
  simp [Ideal.ofBits, Ideal.ieee, -EReal.coe_mul]; norm_num

/-! ## The identity -/

/-- The logistic function through the hyperbolic tangent of the half. -/
theorem logistic_real (z : ℝ) : (1 + Real.exp (-(2 * z)))⁻¹ = (Real.tanh z + 1) / 2 := by
  have h1 := Real.exp_pos z
  have h2 := Real.exp_pos (-z)
  have e : Real.exp (-(2 * z)) = Real.exp (-z) * Real.exp (-z) := by rw [← Real.exp_add]; ring_nf
  have e1 : Real.exp z * Real.exp (-z) = 1 := by rw [← Real.exp_add]; simp
  rw [Real.tanh_eq_sinh_div_cosh, Real.sinh_eq, Real.cosh_eq, e]
  have p1 : 1 + Real.exp (-z) * Real.exp (-z) ≠ 0 := by positivity
  have p2 : Real.exp z + Real.exp (-z) ≠ 0 := by positivity
  field_simp
  linear_combination (-2 * Real.exp (-z)) * e1

/-- The reciprocal of a code scale other than zero is a real number: an infinite scale has reciprocal zero. -/
theorem recip_real (ps : EReal) (h : ps ≠ 0) : ∃ r : ℝ, Ideal.div (Ideal.ofBits .f32 0x3F800000#32) ps = (r : EReal) := by
  rw [Ideal.ofBits_one_f32]
  induction ps with
  | bot => exact ⟨0, by simp [Ideal.div]⟩
  | top => exact ⟨0, by simp [Ideal.div]⟩
  | coe p => exact ⟨1 / p, by rw [Ideal.div_coe (by simpa using h)]; simp⟩

/-- The reference's logistic function of a score, over the code scale, is the kernel's hyperbolic tangent of half that, over twice the
    code scale, plus the constant. -/
theorem probability (x : EReal) (β r : ℝ) :
    Ideal.logistic (((2 : ℝ) : EReal) * x + ((2 * β : ℝ) : EReal)) * (r : EReal)
      = Ideal.tanh (x + (β : EReal)) * (((1 / 2 : ℝ) : EReal) * (r : EReal)) + ((1 / 2 : ℝ) : EReal) * (r : EReal) := by
  induction x with
  | bot =>
    rw [EReal.coe_mul_bot_of_pos (by norm_num), EReal.bot_add, EReal.bot_add, Ideal.logistic_bot, Ideal.tanh_bot, ← EReal.coe_mul, zero_mul,
      show (-1 : EReal) = ((-1 : ℝ) : EReal) by norm_num, ← EReal.coe_mul, ← EReal.coe_add]
    norm_num
  | top =>
    rw [EReal.coe_mul_top_of_pos (by norm_num), EReal.top_add_coe, EReal.top_add_coe, Ideal.logistic_top, Ideal.tanh_top, ← EReal.coe_mul]
    norm_cast
    ring
  | coe z =>
    rw [← EReal.coe_mul, ← EReal.coe_add, ← EReal.coe_add, Ideal.logistic_coe, Ideal.tanh_coe, ← EReal.coe_mul, ← EReal.coe_mul,
      ← EReal.coe_mul, ← EReal.coe_add, ← mul_add, logistic_real]
    norm_cast
    ring

/-- The two programs' codes of a score agree where the code scale is not zero. -/
theorem code_eq (ps a b s : EReal) (visible : Prop) [Decidable visible] (h : ps ≠ 0) :
    min (Ideal.ofBits .f32 0x43E00000#32) (rcode ps a b s visible)
      = if visible then kcode (Ideal.ofBits .f32 0x3F000000#32 * Ideal.div (Ideal.ofBits .f32 0x3F800000#32) ps)
          (a * b * Ideal.ofBits .f32 0x3D21E89B#32) s else 0 := by
  unfold rcode
  by_cases hv : visible
  · obtain ⟨r, hr⟩ := recip_real ps h
    obtain ⟨β, h1, h2⟩ := bias
    rw [if_pos hv, if_pos hv, kcode, hr, half, h1, h2, score_factor, ← probability]
    congr 5
    ac_rfl
  · rw [if_neg hv, if_neg hv, largest, zero_mul, max_self]
    exact min_eq_right (by norm_cast)

end Cert.Proof.Code

end
-- ==== Proof.lean ====
/-
  The certificate's claims, put together: the frames of the four programs, and the equality of the kernel's result with the
  reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.KernelArray
public import proofs.«01_k».proof.Proof.ReferenceArray
public import proofs.«01_k».proof.Proof.Code
public import Idealize.ShloMosaic.Adequacy
public import Idealize.ShloMosaic.Init

@[expose] public section

noncomputable section

namespace Cert.Proof

open Idealize.ShloMosaic Idealize.SL.Sem Cert.Kernel

/-! ## The two result functions are one -/

section
variable (A0 : FVec Ideal Cert.KernelIdeal.S3x512x24x160 .fp8e4m3) (A1 : FVec Ideal Cert.KernelIdeal.S3x4x24 .f32)
  (A2 : FVec Ideal Cert.KernelIdeal.S3x512x8x160 .fp8e4m3) (A3 : FVec Ideal Cert.KernelIdeal.S3x4x8 .f32)
  (A4 : FVec Ideal Cert.KernelIdeal.S3x512x8x160 .fp8e4m3) (A5 : FVec Ideal Cert.KernelIdeal.S8x160 .f32)
  (A6 : FVec Ideal Cert.KernelIdeal.S_ .f32)

/-- The kernel's result array, read at an index of the reference's, is the reference's result. Where the code scale is not zero the codes
    agree one by one; where it is zero both results are a sum times zero. -/
theorem result_eq (b : Fin 3) (n : Fin 512) (g : Fin 8) (r : Fin 3) (d : Fin 160) :
    Cert.KernelIdeal.Attn.resultArray A0 A1 A2 A3 A4 A5 A6 (ix3 b n ⟨160 * (3 * g.val + r.val) + d.val, by omega⟩)
      = Cert.ReferenceIdeal.Attn.result A0 A1 A2 A3 A4 A5 A6 b n g r d := by
  rw [Cert.KernelIdeal.Attn.resultArray_apply A0 A1 A2 A3 A4 A5 A6 _ b n ⟨3 * g.val + r.val, by omega⟩ d rfl rfl rfl]
  unfold Cert.KernelIdeal.Attn.result Cert.ReferenceIdeal.Attn.result
  have hg : Cert.KernelIdeal.Attn.groupOf ⟨3 * g.val + r.val, by omega⟩ = g :=
    Fin.ext (by show (3 * g.val + r.val) / 3 = g.val; omega)
  rw [hg]
  by_cases h : A6 ix0 = (0 : EReal)
  · rw [h, zero_mul, mul_zero, mul_zero]
  congr 1
  refine Finset.sum_congr rfl fun k _ => congrArg (A4 (ix4 b k g d) * ·) ?_
  rw [Code.code_eq _ _ _ _ _ h]
  simp only [mul_comm (A0 _)]
  rfl

end

/-! ## The claims -/

/-- Over the extended reals the kernel and the reference end with the same result array. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨_, (θ_run Cert.KernelIdeal.defs _ _).mono
      (fun _ h c => ⟨(h c).1.trans (Cert.KernelIdeal.Attn.kernel_value m c), (h c).2⟩)
      (Cert.KernelIdeal.Value.run_blocks m ρ), ?_⟩
  refine (θ_run Cert.ReferenceIdeal.defs _ _).mono (fun _ h c => ⟨(h c).1.trans ?_, (h c).2⟩)
    (Cert.ReferenceIdeal.Value.run_blocks m' ρ')
  refine Cert.ReferenceIdeal.Attn.reference_value m' c _ fun b n g r d => ?_
  obtain ⟨e0, e1, e2, e3, e4, e5, e6⟩ := hagree c
  rw [e0, e1, e2, e3, e4, e5, e6]
  exact result_eq _ _ _ _ _ _ _ b n g r d

/-- Everything claimed: the frames of the four programs, that the idealized kernel and the idealized reference are their programs' own
    texts, and the equality of the results. -/
theorem claim : Cert.Claim :=
  ⟨Cert.Kernel.Gen.facts, Cert.KernelIdeal.Gen.facts, Cert.Reference.Gen.facts, Cert.ReferenceIdeal.Gen.facts,
    fun m ρ _ => Cert.Kernel.Gen.frame m ρ, fun m ρ _ => Cert.KernelIdeal.Gen.frame m ρ, fun m ρ _ => Cert.Reference.Gen.frame m ρ,
    fun m ρ _ => Cert.ReferenceIdeal.Gen.frame m ρ, trivial, trivial, algebraic⟩

end Cert.Proof

end
